-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x1024 : Shape := ⟨3, ![8, 1024, 1024]⟩
abbrev S1024x64 : Shape := ⟨2, ![1024, 64]⟩
abbrev S8192x1024 : Shape := ⟨2, ![8192, 1024]⟩
abbrev S8192x64 : Shape := ⟨2, ![8192, 64]⟩
abbrev S512x1024 : Shape := ⟨2, ![512, 1024]⟩
abbrev S512x64 : Shape := ⟨2, ![512, 64]⟩
abbrev S8x1024x64 : Shape := ⟨3, ![8, 1024, 64]⟩

abbrev nBuf : Space → Nat
  | .hbm => 5
  | .vmem => 5
  | .smem => 0
  | _ => 0

abbrev bufTy : (tb : Table) → Fin (tcTables nBuf tb) → BufTy
  | .hbm, ⟨0, _⟩ => ⟨S8x1024x1024, .f32⟩
  | .hbm, ⟨1, _⟩ => ⟨S1024x64, .f32⟩
  | .hbm, ⟨2, _⟩ => ⟨S8192x1024, .f32⟩
  | .hbm, ⟨3, _⟩ => ⟨S8192x64, .f32⟩
  | .hbm, ⟨4, _⟩ => ⟨S8x1024x64, .f32⟩
  | .local _ .vmem, ⟨0, _⟩ => ⟨S512x1024, .f32⟩
  | .local _ .vmem, ⟨1, _⟩ => ⟨S512x1024, .f32⟩
  | .local _ .vmem, ⟨2, _⟩ => ⟨S1024x64, .f32⟩
  | .local _ .vmem, ⟨3, _⟩ => ⟨S512x64, .f32⟩
  | .local _ .vmem, ⟨4, _⟩ => ⟨S512x64, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x1024x1024 : Shape := ⟨3, ![8, 1024, 1024]⟩
abbrev S1024x64 : Shape := ⟨2, ![1024, 64]⟩
abbrev S8x1024x64 : Shape := ⟨3, ![8, 1024, 64]⟩

abbrev nBuf : Space → Nat
  | .hbm => 3
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S1024x64, .f32⟩
  | .hbm, ⟨2, _⟩ => ⟨S8x1024x64, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Block.lean ====
/-
  What one grid point of the kernel computes, over the extended reals.

  A grid point loads a block of 512 rows and the whole codebook, narrows both to bf16 (over the extended reals the
  identity) and stores their matrix product. `block_apply` reads that product at one row and one column.
-/
module

public import proofs.«01_k».proof.Proof.Gen.KernelIdeal.Frame
public import Idealize.ShloMosaic.Lib.Pipeline.Value
public import Idealize.ShloMosaic.Lib.Pointwise

@[expose] public section

noncomputable section

namespace Cert.KernelIdeal.Product

open Cert.KernelIdeal Cert.KernelIdeal.Gen Idealize.ShloMosaic

/-- Two zero offsets, as the body's accesses spell them, are the zero function. -/
theorem off_zero : (![0, 0] : Fin 2 → Nat) = fun _ => 0 := funext fun a => by fin_cases a <;> rfl

/-- What the body leaves in the result's staging buffer: the payload of its one store, of the two whole blocks. -/
theorem out_eq (x : Vec Ideal S512x1024 .f32) (w : Vec Ideal S1024x64 .f32) : out0_2 x w = k0_pay1 x w := by
  unfold out0_2
  rw [View.canon_unit_zero off_zero, View.ld_unit_zero (S := S512x1024) off_zero,
    View.ld_unit_zero (S := S1024x64) off_zero]

/-- A block's product at row `r` and column `d` is the sum, over the 1024 codebook entries `k`, of the block's weight of
    entry `k` in row `r` times coordinate `d` of entry `k`. -/
theorem block_apply (x : Vec Ideal S512x1024 .f32) (w : Vec Ideal S1024x64 .f32) (r : Fin 512) (d : Fin 64) :
    out0_2 x w (ix2 r d) = ∑ k : Fin 1024, x (ix2 r k) * w (ix2 k d) := by
  rw [out_eq]
  pointwise [k0_pay1]

end Cert.KernelIdeal.Product

end
-- ==== Proof.Array.lean ====
/-
  What the kernel's result array holds after the last grid point, over the extended reals.

  The 16 grid points take the 8192 rows of the flattened weights 512 at a time, each with the whole codebook. So the
  array that the region writes is one matrix product of the two arrays that it reads, whatever they hold: `array_eq`.
-/
module

public import proofs.«01_k».proof.Proof.Block
public import Idealize.ShloMosaic.Lib.Pipeline.ValueKit

@[expose] public section

noncomputable section

namespace Cert.KernelIdeal.Product

open Cert.KernelIdeal Cert.KernelIdeal.Gen Idealize.ShloMosaic Idealize.ShloMosaic.TcCoe Idealize.SL.Sem
open Idealize.ShloMosaic.Pipeline (Dat)

/-- The product of 8192 rows of weights with the codebook, as one function of the whole arrays. -/
def product (x : Vec Ideal S8192x1024 .f32) (w : Vec Ideal S1024x64 .f32) : Vec Ideal S8192x64 .f32 :=
  fun i => ∑ k : Fin 1024, x (ix2 (i 0) k) * w (ix2 k (i 1))

variable (m : (ℓ : Loc nD τ sig) → Buf (Elt Ideal) ℓ)

/-- Which block each window is on at grid point `t`: the weights' and the result's `t`-th block of rows, and the
    codebook's only block. -/
theorem index_facts : ∀ t : Fin cfg0.N, win0_0.index t 0 = t.val ∧ win0_0.index t 1 = 0
    ∧ win0_1.index t 0 = 0 ∧ win0_1.index t 1 = 0 ∧ win0_2.index t 0 = t.val ∧ win0_2.index t 1 = 0 :=
  (by decide +kernel : ∀ t : Fin grid0.N, win0_0.index t 0 = t.val ∧ win0_0.index t 1 = 0
    ∧ win0_1.index t 0 = 0 ∧ win0_1.index t 1 = 0 ∧ win0_2.index t 0 = t.val ∧ win0_2.index t 1 = 0)

/-- Grid point `t`'s block of weights, read at row `r`, is row `512 t + r` of the array. -/
theorem rows_apply (c : Dev nD) (t : Fin cfg0.N) (r : Fin 512) (k : Fin 1024) (R : Fin 8192)
    (hR : R.val = t.val * 512 + r.val) :
    iblk m c 0 t (ix2 r k) = (V m c main_v0 : Vec Ideal S8192x1024 .f32) (ix2 R k) := by
  obtain ⟨h0, h1, -⟩ := index_facts t
  unfold iblk
  rw [View.read_apply]
  refine congrArg (V m c main_v0) (funext fun a => Fin.ext ?_)
  match a with
  | ⟨0, _⟩ => show win0_0.index t 0 * 512 + 1 * r.val = R.val; omega
  | ⟨1, _⟩ => show win0_0.index t 1 * 1024 + 1 * k.val = k.val; omega

/-- Every grid point's block of the codebook is the codebook. -/
theorem codebook_apply (c : Dev nD) (t : Fin cfg0.N) (k : Fin 1024) (d : Fin 64) :
    iblk m c 1 t (ix2 k d) = (V m c main_arg1 : Vec Ideal S1024x64 .f32) (ix2 k d) := by
  obtain ⟨-, -, h0, h1, -⟩ := index_facts t
  unfold iblk
  rw [View.read_apply]
  refine congrArg (V m c main_arg1) (funext fun a => Fin.ext ?_)
  match a with
  | ⟨0, _⟩ => show win0_1.index t 0 * 1024 + 1 * k.val = k.val; omega
  | ⟨1, _⟩ => show win0_1.index t 1 * 64 + 1 * d.val = d.val; omega

/-- What grid point `t` leaves at an index `y` of its block of the result is the product at the array index `i` that the
    block places `y` at: row `512 t + y₀`, column `y₁`. -/
theorem written_eq (c : Dev nD) (t : Fin cfg0.N) (y : S512x64.Idx) (i : S8192x64.Idx)
    (hrow : (i 0).val = t.val * 512 + (y 0).val) (hcol : (i 1).val = (y 1).val) :
    out0_2 (iblk m c 0 t) (iblk m c 1 t) y = product (V m c main_v0) (V m c main_arg1) i := by
  obtain ⟨r, d, rfl⟩ : ∃ (r : Fin 512) (d : Fin 64), y = ix2 r d := ⟨_, _, eq_ix2 y⟩
  obtain ⟨R, D, rfl⟩ : ∃ (R : Fin 8192) (D : Fin 64), i = ix2 R D := ⟨_, _, eq_ix2 i⟩
  obtain rfl : D = d := Fin.ext hcol
  rw [block_apply]
  exact Finset.sum_congr rfl fun k _ => congrArg₂ (· * ·) (rows_apply m c t r k R hrow) (codebook_apply m c t k D)

/-- After the last grid point the region's result array is the product of the two arrays that the region reads. -/
theorem array_eq (c : Dev nD) :
    (dats m 0 c).arrAt 2 cfg0.N = product (V m c main_v0) (V m c main_arg1) := by
  refine (dats m 0 c).arrAt_eq_of_covers 2 _ (by decide +kernel) fun t _ y => ?_
  obtain ⟨-, -, -, -, h0, h1⟩ := index_facts t
  rw [after0_2]
  refine written_eq m c t y _ ?_ ?_
  · show win0_2.index t 0 * 512 + 1 * (y 0).val = t.val * 512 + (y 0).val
    omega
  · show win0_2.index t 1 * 64 + 1 * (y 1).val = (y 1).val
    omega

end Cert.KernelIdeal.Product

end
-- ==== Proof.Equation.lean ====
/-
  The kernel against the reference, over the extended reals, as an equation between arrays.

  The kernel flattens the batch of weights to 8192 rows, multiplies them with the codebook and splits the rows into the
  batch again. The reference multiplies the batch with the codebook directly. Row `n` of batch member `b` is row
  `1024 b + n` of the flattened weights, so the two arrays are equal element by element: `kernel_eq_reference`.
-/
module

public import proofs.«01_k».proof.Proof.Array
public import proofs.«01_k».proof.Proof.Gen.ReferenceIdeal

@[expose] public section

noncomputable section

namespace Cert.Equation

open Idealize.ShloMosaic Cert.KernelIdeal.Product

/-- The kernel's result as a function of its arguments: flatten, multiply, split. -/
def kernelResult (x : Vec Ideal Cert.KernelIdeal.S8x1024x1024 .f32) (w : Vec Ideal Cert.KernelIdeal.S1024x64 .f32) :
    Vec Ideal Cert.KernelIdeal.S8x1024x64 .f32 :=
  shapeCast _ (product (shapeCast _ x Cert.KernelIdeal.Facts₀.shapeCasts_S8x1024x1024_S8192x1024) w)
    Cert.KernelIdeal.Facts₀.shapeCasts_S8192x64_S8x1024x64

/-- The kernel's result at batch member `b`, row `n`, coordinate `d`: the codebook entries' `d`-th coordinates, weighted
    and summed. -/
theorem kernelResult_apply (x : Vec Ideal Cert.KernelIdeal.S8x1024x1024 .f32)
    (w : Vec Ideal Cert.KernelIdeal.S1024x64 .f32) (b : Fin 8) (n : Fin 1024) (d : Fin 64) :
    kernelResult x w (ix3 b n d) = ∑ k : Fin 1024, x (ix3 b n k) * w (ix2 k d) := by
  pointwise [kernelResult, product]

/-- The reference's result as a function of its arguments: the batched product that the host computes. -/
def referenceResult (x : FVec Ideal Cert.ReferenceIdeal.S8x1024x1024 .f32)
    (w : FVec Ideal Cert.ReferenceIdeal.S1024x64 .f32) : FVec Ideal Cert.ReferenceIdeal.S8x1024x64 .f32 :=
  Host.dotGeneral Cert.ReferenceIdeal.dot_S8x1024x1024_S1024x64_S8x1024x64_2_0_01_1_n_n none x w

/-- The reference's result at the same place is the same sum. -/
theorem referenceResult_apply (x : FVec Ideal Cert.ReferenceIdeal.S8x1024x1024 .f32)
    (w : FVec Ideal Cert.ReferenceIdeal.S1024x64 .f32) (b : Fin 8) (n : Fin 1024) (d : Fin 64) :
    referenceResult x w (ix3 b n d) = ∑ k : Fin 1024, x (ix3 b n k) * w (ix2 k d) := by
  pointwise [referenceResult]

/-- The kernel and the reference compute the same array. -/
theorem kernel_eq_reference (x : Vec Ideal Cert.KernelIdeal.S8x1024x1024 .f32)
    (w : Vec Ideal Cert.KernelIdeal.S1024x64 .f32) : kernelResult x w = referenceResult x w := by
  funext j
  obtain ⟨b, n, d, rfl⟩ : ∃ (b : Fin 8) (n : Fin 1024) (d : Fin 64), j = ix3 b n d := ⟨_, _, _, eq_ix3 j⟩
  exact (kernelResult_apply x w b n d).trans (referenceResult_apply x w b n d).symm

end Cert.Equation

end
-- ==== Proof.Run.lean ====
/-
  The kernel's run over the extended reals, with its result named.

  The host flattens the batch before the region and splits the rows after it. `run` states that every execution ends with
  the result array at `kernelResult` of the two arguments, and with the arguments as they were.
-/
module

public import proofs.«01_k».proof.Proof.Equation
public import Idealize.ShloMosaic.Lib.StableHlo.Run
public import Idealize.ShloMosaic.Lib.Claim

@[expose] public section

noncomputable section

namespace Cert.KernelIdeal.Product

open Cert.KernelIdeal Cert.KernelIdeal.Gen Cert.Equation
open Idealize.ShloMosaic Idealize.ShloMosaic.TcCoe Idealize.SL.Sem Idealize.ShloMosaic.StableHlo

variable (m : (ℓ : Loc nD τ sig) → Buf (Elt Ideal) ℓ) (ρ : Dev nD → PrngReg)

/-- The region finds the flattened weights in the array that its first window reads. -/
theorem entry_rows (c : Dev nD) : V m c main_v0
    = shapeCast _ (m ((c : Thread nD τ).loc main_arg0)) Facts₀.shapeCasts_S8x1024x1024_S8192x1024 := by
  entry_read
  rfl

/-- The host's last line splits the rows of the region's result: what the result buffer holds at the end. -/
theorem final_eq (c : Dev nD) : Pipeline.afterTail₀ cfgs (dats m) 0 (V0 m) [hostOps1] c main_v2
    = kernelResult (m ((c : Thread nD τ).loc main_arg0)) (m ((c : Thread nD τ).loc main_arg1)) := by
  have harr := Pipeline.withArrays_arr spec0 (by decide) c (V0 m c) (fun w => (dats m 0 c).arrAt w cfg0.N) 2
  have hprod := array_eq m c
  rw [entry_rows, V_main_arg1] at hprod
  unfold Pipeline.afterTail₀ kernelResult
  rw [← hprod]
  refine Eq.trans ?_ (congrArg (fun A => shapeCast S8x1024x64 A Facts₀.shapeCasts_S8192x64_S8x1024x64) harr)
  after_results
  rfl

/-- Every execution ends with the result at `kernelResult` of the arguments, and with the arguments unchanged. -/
theorem run : θ_run defs (onTc (τ := τ) (main (F := Ideal))) ⟨m, fun _ => 0, ρ⟩ fun r => ∀ c : Dev nD,
      r.2.mem ((c : Thread nD τ).loc main_v2)
        = kernelResult (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h.1 c).2 main_v2 (Pipeline.mem_restRefs_of main_v2 (by decide) (by decide))).trans (final_eq m c), h.2 c⟩)
    (θ_run_and (run_main m ρ) (unchanged m ρ))

end Cert.KernelIdeal.Product

end
-- ==== Proof.Claims.lean ====
/-
  The two claims that need a proof of their own: the reference's frame, and the equality of kernel and reference.
-/
module

public import proofs.«01_k».proof.Defs
public import proofs.«01_k».proof.Proof.Run
public import proofs.«01_k».proof.Proof.Gen.ReferenceIdeal.Run
public import Idealize.ShloMosaic.Lib.Quiescent

@[expose] public section

noncomputable section

namespace Cert.Proof

open Idealize.ShloMosaic Idealize.SL.Sem

/-- The reference terminates with its arguments unchanged. It declares no semaphore, so every counter is at zero. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two programs' results agree on arguments that agree. -/
theorem results_agree (x x' : FVec Ideal Cert.KernelIdeal.S8x1024x1024 .f32)
    (w w' : FVec Ideal Cert.KernelIdeal.S1024x64 .f32) (hx : x' = x) (hw : w' = w) :
    Equation.referenceResult x' w' = Equation.kernelResult x w := by
  rw [hx, hw, Equation.kernel_eq_reference]

/-- From memories that agree on the arguments, kernel and reference end with the same result, which is the batched
    product of the weights with the codebook. -/
theorem kernel_is_reference : Cert.algebraic_KernelIdeal_ReferenceIdeal := by
  intro m ρ m' ρ' _ hagree
  refine ⟨_, Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  exact results_agree _ _ _ _ (hagree c).1 (hagree c).2

end Cert.Proof

end
-- ==== Proof.lean ====
/-
  The certificate's conclusion: the five claims about the kernel, its idealization and the reference.

  The two programs' frames over the kernel's text come from the generated modules. The reference's frame and the
  equality of kernel and reference are proved in `Proof/Claims.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

/-- The five claims: the three frames, the idealization, and the equality of kernel and reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  kernel_is_reference⟩

end Cert.Proof

end
